-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x16384x128 : Shape := ⟨3, ![4, 16384, 128]⟩
abbrev S4 : Shape := ⟨1, ![4]⟩
abbrev S4x128x128 : Shape := ⟨3, ![4, 128, 128]⟩
abbrev S4x128 : Shape := ⟨2, ![4, 128]⟩
abbrev S5x128x128 : Shape := ⟨3, ![5, 128, 128]⟩
abbrev S5x128 : Shape := ⟨2, ![5, 128]⟩
abbrev S128x1000 : Shape := ⟨2, ![128, 1000]⟩
abbrev S1000 : Shape := ⟨1, ![1000]⟩
abbrev S1000x128 : Shape := ⟨2, ![1000, 128]⟩
abbrev S1000x16384 : Shape := ⟨2, ![1000, 16384]⟩
abbrev S16384x128 : Shape := ⟨2, ![16384, 128]⟩
abbrev S4x2048x128 : Shape := ⟨3, ![4, 2048, 128]⟩
abbrev S1000x2048 : Shape := ⟨2, ![1000, 2048]⟩
abbrev S2048x128 : Shape := ⟨2, ![2048, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x2048x128 : Shape := ⟨3, ![1, 2048, 128]⟩
abbrev S1000x1 : Shape := ⟨2, ![1000, 1]⟩
abbrev S16384x1000 : Shape := ⟨2, ![16384, 1000]⟩

abbrev nBuf : Space → Nat
  | .hbm => 15
  | .vmem => 16
  | .smem => 0
  | _ => 0

abbrev bufTy : (tb : Table) → Fin (tcTables nBuf tb) → BufTy
  | .hbm, ⟨0, _⟩ => ⟨S4x16384x128, .f32⟩
  | .hbm, ⟨1, _⟩ => ⟨S4x16384x128, .f32⟩
  | .hbm, ⟨2, _⟩ => ⟨S4, .f32⟩
  | .hbm, ⟨3, _⟩ => ⟨S4x128x128, .f32⟩
  | .hbm, ⟨4, _⟩ => ⟨S4x128, .f32⟩
  | .hbm, ⟨5, _⟩ => ⟨S5x128x128, .f32⟩
  | .hbm, ⟨6, _⟩ => ⟨S5x128, .f32⟩
  | .hbm, ⟨7, _⟩ => ⟨S128x1000, .f32⟩
  | .hbm, ⟨8, _⟩ => ⟨S1000, .f32⟩
  | .hbm, ⟨9, _⟩ => ⟨S4x128, .f32⟩
  | .hbm, ⟨10, _⟩ => ⟨S5x128, .f32⟩
  | .hbm, ⟨11, _⟩ => ⟨S1000x128, .f32⟩
  | .hbm, ⟨12, _⟩ => ⟨S1000x16384, .f32⟩
  | .hbm, ⟨13, _⟩ => ⟨S16384x128, .f32⟩
  | .hbm, ⟨14, _⟩ => ⟨S16384x1000, .f32⟩
  | .local _ .vmem, ⟨0, _⟩ => ⟨S4x2048x128, .f32⟩
  | .local _ .vmem, ⟨1, _⟩ => ⟨S4x2048x128, .f32⟩
  | .local _ .vmem, ⟨2, _⟩ => ⟨S4x2048x128, .f32⟩
  | .local _ .vmem, ⟨3, _⟩ => ⟨S4x2048x128, .f32⟩
  | .local _ .vmem, ⟨4, _⟩ => ⟨S4x128x128, .f32⟩
  | .local _ .vmem, ⟨5, _⟩ => ⟨S4x128, .f32⟩
  | .local _ .vmem, ⟨6, _⟩ => ⟨S4x128, .f32⟩
  | .local _ .vmem, ⟨7, _⟩ => ⟨S5x128x128, .f32⟩
  | .local _ .vmem, ⟨8, _⟩ => ⟨S5x128, .f32⟩
  | .local _ .vmem, ⟨9, _⟩ => ⟨S5x128, .f32⟩
  | .local _ .vmem, ⟨10, _⟩ => ⟨S1000x128, .f32⟩
  | .local _ .vmem, ⟨11, _⟩ => ⟨S1000, .f32⟩
  | .local _ .vmem, ⟨12, _⟩ => ⟨S1000x2048, .f32⟩
  | .local _ .vmem, ⟨13, _⟩ => ⟨S1000x2048, .f32⟩
  | .local _ .vmem, ⟨14, _⟩ => ⟨S2048x128, .f32⟩
  | .local _ .vmem, ⟨15, _⟩ => ⟨S2048x128, .f32⟩
  | _, _ => ⟨S4x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1000x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1000 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1000x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4x16384x128 : Shape := ⟨3, ![4, 16384, 128]⟩
abbrev S4 : Shape := ⟨1, ![4]⟩
abbrev S4x128x128 : Shape := ⟨3, ![4, 128, 128]⟩
abbrev S4x128 : Shape := ⟨2, ![4, 128]⟩
abbrev S5x128x128 : Shape := ⟨3, ![5, 128, 128]⟩
abbrev S5x128 : Shape := ⟨2, ![5, 128]⟩
abbrev S128x1000 : Shape := ⟨2, ![128, 1000]⟩
abbrev S1000 : Shape := ⟨1, ![1000]⟩
abbrev S1x128 : Shape := ⟨2, ![1, 128]⟩
abbrev S4x1x128 : Shape := ⟨3, ![4, 1, 128]⟩
abbrev S_ : Shape := ⟨0, ![]⟩
abbrev S16384x4x128 : Shape := ⟨3, ![16384, 4, 128]⟩
abbrev S1x128x1 : Shape := ⟨3, ![1, 128, 1]⟩
abbrev S1x1x4 : Shape := ⟨3, ![1, 1, 4]⟩
abbrev S1x128x4 : Shape := ⟨3, ![1, 128, 4]⟩
abbrev S1x4x128 : Shape := ⟨3, ![1, 4, 128]⟩
abbrev S16384x128 : Shape := ⟨2, ![16384, 128]⟩
abbrev S1x16384x128 : Shape := ⟨3, ![1, 16384, 128]⟩
abbrev S5x16384x128 : Shape := ⟨3, ![5, 16384, 128]⟩
abbrev S5x1x128 : Shape := ⟨3, ![5, 1, 128]⟩
abbrev S16384x5x128 : Shape := ⟨3, ![16384, 5, 128]⟩
abbrev S1x1x5 : Shape := ⟨3, ![1, 1, 5]⟩
abbrev S1x128x5 : Shape := ⟨3, ![1, 128, 5]⟩
abbrev S1x5x128 : Shape := ⟨3, ![1, 5, 128]⟩
abbrev S16384x1000 : Shape := ⟨2, ![16384, 1000]⟩
abbrev S1x1000 : Shape := ⟨2, ![1, 1000]⟩

abbrev nBuf : Space → Nat
  | .hbm => 55
  | .vmem => 0
  | .smem => 0
  | _ => 0

abbrev bufTy : (tb : Table) → Fin (tcTables nBuf tb) → BufTy
  | .hbm, ⟨0, _⟩ => ⟨S4x16384x128, .f32⟩
  | .hbm, ⟨1, _⟩ => ⟨S4x16384x128, .f32⟩
  | .hbm, ⟨2, _⟩ => ⟨S4, .f32⟩
  | .hbm, ⟨3, _⟩ => ⟨S4x128x128, .f32⟩
  | .hbm, ⟨4, _⟩ => ⟨S4x128, .f32⟩
  | .hbm, ⟨5, _⟩ => ⟨S5x128x128, .f32⟩
  | .hbm, ⟨6, _⟩ => ⟨S5x128, .f32⟩
  | .hbm, ⟨7, _⟩ => ⟨S128x1000, .f32⟩
  | .hbm, ⟨8, _⟩ => ⟨S1000, .f32⟩
  | .hbm, ⟨9, _⟩ => ⟨S1x128, .i32⟩
  | .hbm, ⟨10, _⟩ => ⟨S1x128, .i32⟩
  | .hbm, ⟨11, _⟩ => ⟨S4x16384x128, .f32⟩
  | .hbm, ⟨12, _⟩ => ⟨S4x1x128, .f32⟩
  | .hbm, ⟨13, _⟩ => ⟨S4x16384x128, .f32⟩
  | .hbm, ⟨14, _⟩ => ⟨S4x16384x128, .f32⟩
  | .hbm, ⟨15, _⟩ => ⟨S_, .f32⟩
  | .hbm, ⟨16, _⟩ => ⟨S4x16384x128, .f32⟩
  | .hbm, ⟨17, _⟩ => ⟨S4x16384x128, .f32⟩
  | .hbm, ⟨18, _⟩ => ⟨S16384x4x128, .f32⟩
  | .hbm, ⟨19, _⟩ => ⟨S1x128x1, .i32⟩
  | .hbm, ⟨20, _⟩ => ⟨S1x1x4, .i32⟩
  | .hbm, ⟨21, _⟩ => ⟨S1x128x4, .i32⟩
  | .hbm, ⟨22, _⟩ => ⟨S1x128x4, .i32⟩
  | .hbm, ⟨23, _⟩ => ⟨S1x128x4, .i1⟩
  | .hbm, ⟨24, _⟩ => ⟨S1x128x4, .f32⟩
  | .hbm, ⟨25, _⟩ => ⟨S1x4x128, .f32⟩
  | .hbm, ⟨26, _⟩ => ⟨S16384x4x128, .f32⟩
  | .hbm, ⟨27, _⟩ => ⟨S16384x4x128, .f32⟩
  | .hbm, ⟨28, _⟩ => ⟨S_, .f32⟩
  | .hbm, ⟨29, _⟩ => ⟨S16384x128, .f32⟩
  | .hbm, ⟨30, _⟩ => ⟨S1x16384x128, .f32⟩
  | .hbm, ⟨31, _⟩ => ⟨S5x16384x128, .f32⟩
  | .hbm, ⟨32, _⟩ => ⟨S5x16384x128, .f32⟩
  | .hbm, ⟨33, _⟩ => ⟨S5x1x128, .f32⟩
  | .hbm, ⟨34, _⟩ => ⟨S5x16384x128, .f32⟩
  | .hbm, ⟨35, _⟩ => ⟨S5x16384x128, .f32⟩
  | .hbm, ⟨36, _⟩ => ⟨S_, .f32⟩
  | .hbm, ⟨37, _⟩ => ⟨S5x16384x128, .f32⟩
  | .hbm, ⟨38, _⟩ => ⟨S5x16384x128, .f32⟩
  | .hbm, ⟨39, _⟩ => ⟨S16384x5x128, .f32⟩
  | .hbm, ⟨40, _⟩ => ⟨S1x128x1, .i32⟩
  | .hbm, ⟨41, _⟩ => ⟨S1x1x5, .i32⟩
  | .hbm, ⟨42, _⟩ => ⟨S1x128x5, .i32⟩
  | .hbm, ⟨43, _⟩ => ⟨S1x128x5, .i32⟩
  | .hbm, ⟨44, _⟩ => ⟨S1x128x5, .i1⟩
  | .hbm, ⟨45, _⟩ => ⟨S1x128x5, .f32⟩
  | .hbm, ⟨46, _⟩ => ⟨S1x5x128, .f32⟩
  | .hbm, ⟨47, _⟩ => ⟨S16384x5x128, .f32⟩
  | .hbm, ⟨48, _⟩ => ⟨S16384x5x128, .f32⟩
  | .hbm, ⟨49, _⟩ => ⟨S_, .f32⟩
  | .hbm, ⟨50, _⟩ => ⟨S16384x128, .f32⟩
  | .hbm, ⟨51, _⟩ => ⟨S16384x1000, .f32⟩
  | .hbm, ⟨52, _⟩ => ⟨S1x1000, .f32⟩
  | .hbm, ⟨53, _⟩ => ⟨S16384x1000, .f32⟩
  | .hbm, ⟨54, _⟩ => ⟨S16384x1000, .f32⟩
  | _, _ => ⟨S4x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call2_cst : Ref sig .tc := ⟨.hbm, 36, rfl⟩
abbrev main_call2_v0 : Ref sig .tc := ⟨.hbm, 37, rfl⟩
abbrev main_v17 : Ref sig .tc := ⟨.hbm, 38, rfl⟩
abbrev main_v18 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_1 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩

abbrev nD : Nat := 1
abbrev τ : Topo := Topo.v7x

variable {F : FTy → Type} [FloatOps F]
-- ==== Proof.Level.lean ====
/-
  The mathematics of one level of the model, over the extended reals and for any number `n` of experts.

  A level has `n` experts. Expert `m` turns its own input row `x m` into one number per lane: the product of the row with
  the lane's weight column `w m`, plus the lane's bias `β m`, cut off below at zero. A lane keeps exactly one of the experts,
  and `μ` is its selection: one at that expert and zero at all others.

  The reference computes every expert and then adds up the selected ones (`level`). The kernel selects first: it
  scales every weight column and every bias by the selection, adds up all products, and cuts off at zero once
  (`maskedLevel`). For a selection that is one at exactly one expert the two are equal (`maskedLevel_eq_level`), whatever
  the entries are: zero times any extended real is zero, the infinities included.
-/
module

public import Idealize.ShloMosaic.Lib.Pointwise

@[expose] public section

noncomputable section

namespace Cert.Selection

/-- One lane of a level, as the reference computes it: the sum over the experts of the expert's output times the
    lane's selection. -/
def level {n d : Nat} (x w : Fin n → Fin d → EReal) (β μ : Fin n → EReal) : EReal :=
  ∑ m, max ((∑ k, x m k * w m k) + β m) 0 * μ m

/-- One lane of a level, as the kernel computes it: the selection multiplied into the weights and the biases, everything
    added up, and one cut-off at zero. -/
def maskedLevel {n d : Nat} (x w : Fin n → Fin d → EReal) (β μ : Fin n → EReal) : EReal :=
  max ((∑ m, ∑ k, x m k * (w m k * μ m)) + ∑ m, β m * μ m) 0

/-- A selection is one at a single expert and zero at all others. -/
def IsSelection {n : Nat} (μ : Fin n → EReal) : Prop := ∃ s, ∀ m, μ m = if m = s then 1 else 0

/-- A sum weighted by a selection is its one selected term. -/
theorem sum_selected {n : Nat} (s : Fin n) (f : Fin n → EReal) : (∑ m, f m * if m = s then 1 else 0) = f s := by
  simp only [mul_ite, mul_one, mul_zero, Finset.sum_ite_eq', Finset.mem_univ, if_true]

/-- The kernel's way to compute a lane gives the reference's, for every selection. -/
theorem maskedLevel_eq_level {n d : Nat} (x w : Fin n → Fin d → EReal) (β μ : Fin n → EReal) (h : IsSelection μ) :
    maskedLevel x w β μ = level x w β μ := by
  obtain ⟨s, hs⟩ := h
  have hprod (m : Fin n) : (∑ k, x m k * (w m k * if m = s then 1 else 0))
      = (∑ k, x m k * w m k) * if m = s then 1 else 0 := by
    split <;> simp only [mul_one, mul_zero, Finset.sum_const_zero]
  simp only [maskedLevel, level, hs, hprod, sum_selected]

/-- The inputs of the second level: those of the first `n` experts, and one more, the first level's output row. -/
def extend {n d : Nat} (x : Fin n → Fin d → EReal) (h : Fin d → EReal) : Fin (n + 1) → Fin d → EReal :=
  Fin.snoc (α := fun _ => Fin d → EReal) x h

/-- The first `n` experts keep their inputs, -/
@[simp] theorem extend_castSucc {n d : Nat} (x : Fin n → Fin d → EReal) (h : Fin d → EReal) (m : Fin n) :
    extend x h m.castSucc = x m := Fin.snoc_castSucc ..

/-- and the additional one reads the row `h`. -/
@[simp] theorem extend_last {n d : Nat} (x : Fin n → Fin d → EReal) (h : Fin d → EReal) :
    extend x h (Fin.last n) = h := Fin.snoc_last ..

/-- The kernel's way to compute a lane of such a level starts with the additional expert. -/
theorem maskedLevel_extend {n d : Nat} (x : Fin n → Fin d → EReal) (h : Fin d → EReal) (w : Fin (n + 1) → Fin d → EReal)
    (β μ : Fin (n + 1) → EReal) :
    maskedLevel (extend x h) w β μ
      = max (((∑ k, h k * (w (Fin.last n) k * μ (Fin.last n)))
          + ∑ m : Fin n, ∑ k, x m k * (w m.castSucc k * μ m.castSucc)) + ∑ m, β m * μ m) 0 := by
  rw [maskedLevel, Fin.sum_univ_castSucc]
  simp only [extend_castSucc, extend_last]
  rw [add_comm (∑ m : Fin n, _) (∑ k, h k * _)]

end Cert.Selection

end
-- ==== Proof.Tables.lean ====
/-
  The two selection tables.

  The kernel holds its selections as constant arrays of zeros and ones, [4, 128] and [5, 128], given as words of the 32-bit
  float format. The reference holds, per level, the 128 expert numbers that its fixed random draw selected, and builds the
  zeros and ones by comparing each number with 0, 1, 2, …. Here: word by word the kernel's tables are those comparisons
  (`first_word`, `second_word`, each checked entry by entry), and so as extended reals both are one and the same
  selection (`kernel_first`, `kernel_second`), which has a single one in every lane (`isSelection_first`, `isSelection_second`).
-/
module

public import proofs.«01_k».proof.KernelIdeal
public import proofs.«01_k».proof.ReferenceIdeal
public import proofs.«01_k».proof.Proof.Level
public import Idealize.ShloMosaic.Lib.IdealHost

@[expose] public section

noncomputable section

namespace Cert.Selection

open Idealize.ShloMosaic

/-- The selection of a lane whose selected expert has the number `c`: one at that expert, zero elsewhere. -/
def pick (n : Nat) (c : BitVec 32) (m : Fin n) : EReal := if c = BitVec.ofNat 32 m then 1 else 0

/-- The first level's selection at lane `e`. -/
def first (e : Fin 128) : Fin 4 → EReal := pick 4 (Cert.ReferenceIdeal.lit0 e)

/-- The second level's selection at lane `e`. -/
def second (e : Fin 128) : Fin 5 → EReal := pick 5 (Cert.ReferenceIdeal.lit1 e)

/-- A drawn number below `n` makes a selection. -/
theorem isSelection_pick {n : Nat} (hn : n ≤ 2 ^ 32) {c : BitVec 32} (h : c.toNat < n) : IsSelection (pick n c) := by
  refine ⟨⟨c.toNat, h⟩, fun m => ?_⟩
  have hm : (m : Nat) < 2 ^ 32 := lt_of_lt_of_le m.isLt hn
  refine if_congr ?_ rfl rfl
  rw [← BitVec.toNat_inj, BitVec.toNat_ofNat, Nat.mod_eq_of_lt hm, Fin.ext_iff]
  exact eq_comm

/-- Every first-level draw is one of the 4 experts, -/
theorem first_lt : ∀ e : Fin 128, (Cert.ReferenceIdeal.lit0 e).toNat < 4 := by decide +kernel

/-- and every second-level draw one of the 5. -/
theorem second_lt : ∀ e : Fin 128, (Cert.ReferenceIdeal.lit1 e).toNat < 5 := by decide +kernel

/-- Each lane of the first level selects exactly one expert, -/
theorem isSelection_first (e : Fin 128) : IsSelection (first e) := isSelection_pick (by decide) (first_lt e)

/-- and each lane of the second level. -/
theorem isSelection_second (e : Fin 128) : IsSelection (second e) := isSelection_pick (by decide) (second_lt e)

/-- The first table's word at expert `m` and lane `e`: the float one where the lane's draw is `m`, else zero. -/
theorem first_word : ∀ (m : Fin 4) (e : Fin 128), Cert.KernelIdeal.lit0t (m * 128 + e)
    = if Cert.ReferenceIdeal.lit0 e = BitVec.ofNat 32 m then 0x3F800000#32 else 0#32 := by decide +kernel

/-- The second table's word at expert `m` and lane `e`. -/
theorem second_word : ∀ (m : Fin 5) (e : Fin 128), Cert.KernelIdeal.lit1t (m * 128 + e)
    = if Cert.ReferenceIdeal.lit1 e = BitVec.ofNat 32 m then 0x3F800000#32 else 0#32 := by decide +kernel

/-- The float word of one is one, and the zero word is zero. -/
theorem ofBits_pick {n : Nat} (c : BitVec 32) (m : Fin n) :
    (FloatOps.ofBits .f32 (if c = BitVec.ofNat 32 m then 0x3F800000#32 else 0#32) : Ideal .f32) = pick n c m := by
  unfold pick
  split
  · exact Ideal.ofBits_one_f32
  · exact Ideal.ofBits_zero_f32

/-- The kernel's first table at expert `m` and lane `e` is the first level's selection. -/
theorem kernel_first (m : Fin 4) (e : Fin 128) :
    (FloatOps.ofBits .f32 (Cert.KernelIdeal.lit0 (Cert.KernelIdeal.S4x128.rowMajor (ix2 m e))) : Ideal .f32) = first e m := by
  have h : Cert.KernelIdeal.lit0 (Cert.KernelIdeal.S4x128.rowMajor (ix2 m e)) = Cert.KernelIdeal.lit0t (m * 128 + e) :=
    congrArg Cert.KernelIdeal.lit0t (Shape.rowMajor_val_two (d := ![4, 128]) (ix2 m e))
  rw [h, first_word, ofBits_pick, first]

/-- The kernel's second table at expert `m` and lane `e` is the second level's selection. -/
theorem kernel_second (m : Fin 5) (e : Fin 128) :
    (FloatOps.ofBits .f32 (Cert.KernelIdeal.lit1 (Cert.KernelIdeal.S5x128.rowMajor (ix2 m e))) : Ideal .f32) = second e m := by
  have h : Cert.KernelIdeal.lit1 (Cert.KernelIdeal.S5x128.rowMajor (ix2 m e)) = Cert.KernelIdeal.lit1t (m * 128 + e) :=
    congrArg Cert.KernelIdeal.lit1t (Shape.rowMajor_val_two (d := ![5, 128]) (ix2 m e))
  rw [h, second_word, ofBits_pick, second]

end Cert.Selection

end
-- ==== Proof.Model.lean ====
/-
  What the model computes from its arrays, as formulas over the extended reals, for any number `B` of batch rows.

  `firstOut` is the first level, one number per batch row and lane; `secondOut` is the second level, whose five
  experts read the four inputs of the second kind and the first level's row; `logits` is the final linear layer. A batch row of
  each depends on that row of the inputs only, which is why the kernel may work on blocks of rows.
-/
module

public import proofs.«01_k».proof.Proof.Tables

@[expose] public section

noncomputable section

namespace Cert.Selection

open Idealize.ShloMosaic

/-- A one-dimensional array of extended reals. -/
abbrev Arr1 (a : Nat) := FVec Ideal ⟨1, ![a]⟩ .f32

/-- A two-dimensional array of extended reals. -/
abbrev Arr2 (a b : Nat) := FVec Ideal ⟨2, ![a, b]⟩ .f32

/-- A three-dimensional array of extended reals. -/
abbrev Arr3 (a b c : Nat) := FVec Ideal ⟨3, ![a, b, c]⟩ .f32

/-- The first level's output at batch row `r` and lane `e`. -/
def firstOut {B : Nat} (x₁ : Arr3 4 B 128) (w₁ : Arr3 4 128 128) (b₁ : Arr2 4 128) (r : Fin B) (e : Fin 128) : EReal :=
  level (fun m k => x₁ (ix3 m r k)) (fun m k => w₁ (ix3 m k e)) (fun m => b₁ (ix2 m e)) (first e)

/-- The second level's output at batch row `r` and lane `e`. -/
def secondOut {B : Nat} (x₁ x₂ : Arr3 4 B 128) (w₁ : Arr3 4 128 128) (b₁ : Arr2 4 128) (w₂ : Arr3 5 128 128)
    (b₂ : Arr2 5 128) (r : Fin B) (e : Fin 128) : EReal :=
  level (extend (fun m k => x₂ (ix3 m r k)) (firstOut x₁ w₁ b₁ r)) (fun m k => w₂ (ix3 m k e)) (fun m => b₂ (ix2 m e))
    (second e)

/-- The model's output at batch row `r` and class `n`. -/
def logits {B : Nat} (x₁ x₂ : Arr3 4 B 128) (w₁ : Arr3 4 128 128) (b₁ : Arr2 4 128) (w₂ : Arr3 5 128 128)
    (b₂ : Arr2 5 128) (w₃ : Arr2 128 1000) (b₃ : Arr1 1000) (r : Fin B) (n : Fin 1000) : EReal :=
  (∑ e, secondOut x₁ x₂ w₁ b₁ w₂ b₂ r e * w₃ (ix2 e n)) + b₃ (ix1 n)

/-- Inputs that agree on a row give the same first-level row, -/
theorem firstOut_congr {B B' : Nat} {x₁ : Arr3 4 B 128} {y₁ : Arr3 4 B' 128} {w₁ : Arr3 4 128 128} {b₁ : Arr2 4 128}
    {r : Fin B} {r' : Fin B'} (h₁ : ∀ m k, x₁ (ix3 m r k) = y₁ (ix3 m r' k)) :
    firstOut x₁ w₁ b₁ r = firstOut y₁ w₁ b₁ r' := by
  funext e; simp only [firstOut, h₁]

/-- and the same row of the whole model. -/
theorem logits_congr {B B' : Nat} {x₁ x₂ : Arr3 4 B 128} {y₁ y₂ : Arr3 4 B' 128} {w₁ : Arr3 4 128 128} {b₁ : Arr2 4 128}
    {w₂ : Arr3 5 128 128} {b₂ : Arr2 5 128} {w₃ : Arr2 128 1000} {b₃ : Arr1 1000}
    {r : Fin B} {r' : Fin B'} (h₁ : ∀ m k, x₁ (ix3 m r k) = y₁ (ix3 m r' k)) (h₂ : ∀ m k, x₂ (ix3 m r k) = y₂ (ix3 m r' k)) :
    logits x₁ x₂ w₁ b₁ w₂ b₂ w₃ b₃ r = logits y₁ y₂ w₁ b₁ w₂ b₂ w₃ b₃ r' := by
  funext n; simp only [logits, secondOut, firstOut_congr h₁, h₂]

end Cert.Selection

end
-- ==== Proof.Body.lean ====
/-
  What the kernel's body computes on one block of 2048 batch rows.

  The body's two stored blocks are read at an index (`first_block`, `second_block`): the first is the first level in the
  masked form of `maskedLevel`, the second the final linear layer of the second level, in the same form, stored with the
  classes along the rows. Where the table blocks hold the two selections and the last weight block is the transposed weight
  matrix, they are the formulas of the model (`out_first`, `out_logits`).
-/
module

public import proofs.«01_k».proof.Proof.Gen.KernelIdeal.Frame
public import proofs.«01_k».proof.Proof.Model
public import Idealize.ShloMosaic.Lib.Pipeline.ValueKit

@[expose] public section

noncomputable section

namespace Cert.KernelIdeal.Body

open Idealize.ShloMosaic Cert.KernelIdeal Cert.KernelIdeal.Gen Cert.Selection

variable (x0 x1 : Vec Ideal S4x2048x128 .f32) (x2 : Vec Ideal S4x128x128 .f32) (x3 x4 : Vec Ideal S4x128 .f32)
  (x5 : Vec Ideal S5x128x128 .f32) (x6 x7 : Vec Ideal S5x128 .f32) (x8 : Vec Ideal S1000x128 .f32) (x9 : Vec Ideal S1000 .f32)

/-- The first level on the block, as the body computes it. -/
def maskedFirst (r : Fin 2048) (e : Fin 128) : EReal :=
  maskedLevel (fun m k => x0 (ix3 m r k)) (fun m k => x2 (ix3 m k e)) (fun m => x3 (ix2 m e)) (fun m => x4 (ix2 m e))

/-- The second level on the block, as the body computes it. -/
def maskedSecond (r : Fin 2048) (e : Fin 128) : EReal :=
  maskedLevel (extend (fun m k => x1 (ix3 m r k)) (maskedFirst x0 x2 x3 x4 r)) (fun m k => x5 (ix3 m k e))
    (fun m => x6 (ix2 m e)) (fun m => x7 (ix2 m e))

/-- The block of the first level's array that the body stores. -/
theorem first_block (r : Fin 2048) (e : Fin 128) :
    out0_11 x0 x1 x2 x3 x4 x5 x6 x7 x8 x9 (ix2 r e) = maskedFirst x0 x2 x3 x4 r e := by
  unfold_out out0_11
  rw [View.canon_cons_unit_lit _ _ _ (by decide)]
  unfold_payloads
  pointwise
  simp only [maskedFirst, maskedLevel, Fin.sum_univ_four (M := EReal)]

/-- The block of the transposed output array that the body stores. -/
theorem second_block (n : Fin 1000) (r : Fin 2048) :
    out0_10 x0 x1 x2 x3 x4 x5 x6 x7 x8 x9 (ix2 n r)
      = (∑ e, x8 (ix2 n e) * maskedSecond x0 x1 x2 x3 x4 x5 x6 x7 r e) + x9 (ix1 n) := by
  unfold_out out0_10
  rw [View.canon_cons_unit_lit _ _ _ (by decide)]
  unfold_payloads
  pointwise
  congr 1
  refine Finset.sum_congr rfl fun e _ => ?_
  rw [maskedSecond, maskedLevel_extend]
  simp only [maskedFirst, maskedLevel, Fin.sum_univ_four (M := EReal), ← add_assoc, Fin.castSucc]
  rfl

/-- Where the first table block holds the first level's selections, the stored block is the first level of the model. -/
theorem out_first (h4 : ∀ m e, x4 (ix2 m e) = first e m) (r : Fin 2048) (e : Fin 128) :
    out0_11 x0 x1 x2 x3 x4 x5 x6 x7 x8 x9 (ix2 r e) = firstOut x0 x2 x3 r e := by
  rw [first_block, maskedFirst, funext fun m => h4 m e, maskedLevel_eq_level _ _ _ _ (isSelection_first e), firstOut]

/-- Where both table blocks hold the selections and the last weight block is a transposed matrix `w₃`, the other stored block
    is the output of the model. -/
theorem out_logits (w₃ : Arr2 128 1000) (h4 : ∀ m e, x4 (ix2 m e) = first e m) (h7 : ∀ m e, x7 (ix2 m e) = second e m)
    (h8 : ∀ n e, x8 (ix2 n e) = w₃ (ix2 e n)) (n : Fin 1000) (r : Fin 2048) :
    out0_10 x0 x1 x2 x3 x4 x5 x6 x7 x8 x9 (ix2 n r) = logits x0 x1 x2 x3 x5 x6 w₃ x9 r n := by
  have hfirst : maskedFirst x0 x2 x3 x4 r = firstOut x0 x2 x3 r := by
    funext e
    rw [← first_block x0 x1 x2 x3 x4 x5 x6 x7 x8 x9, out_first x0 x1 x2 x3 x4 x5 x6 x7 x8 x9 h4]
  have hsecond (e : Fin 128) : maskedSecond x0 x1 x2 x3 x4 x5 x6 x7 r e = secondOut x0 x1 x2 x3 x5 x6 r e := by
    rw [maskedSecond, hfirst, funext fun m => h7 m e, maskedLevel_eq_level _ _ _ _ (isSelection_second e), secondOut]
  rw [second_block, logits]
  congr 1
  refine Finset.sum_congr rfl fun e _ => ?_
  rw [hsecond, h8, mul_comm]

end Cert.KernelIdeal.Body

end
-- ==== Proof.Blocks.lean ====
/-
  The kernel's arrays and the blocks of them that a grid point reads.

  Point `t` of the eight reads rows `2048 t … 2048 t + 2047` of the two inputs, and all of every other array.
-/
module

public import proofs.«01_k».proof.Proof.Body
public import Idealize.ShloMosaic.Lib.StableHlo.Run

@[expose] public section

noncomputable section

namespace Cert.KernelIdeal.Blocks

open Idealize.ShloMosaic Idealize.ShloMosaic.TcCoe Cert.KernelIdeal Cert.KernelIdeal.Gen Cert.Selection

variable (m : (ℓ : Loc nD τ sig) → Buf (Elt Ideal) ℓ) (c : Dev nD)

/-- The block numbers of the four windows that move with the point. -/
theorem idx_rows : ∀ t : Fin cfg0.N, win0_0.index t = ![0, t.val, 0] ∧ win0_1.index t = ![0, t.val, 0]
    ∧ win0_10.index t = ![0, t.val] ∧ win0_11.index t = ![t.val, 0] :=
  (by decide +kernel : ∀ t : Fin grid0.N, _)

/-- Every other window stays at its array's only block. -/
theorem idx_whole : ∀ t : Fin cfg0.N, win0_2.index t = ![0, 0, 0] ∧ win0_3.index t = ![0, 0] ∧ win0_4.index t = ![0, 0]
    ∧ win0_5.index t = ![0, 0, 0] ∧ win0_6.index t = ![0, 0] ∧ win0_7.index t = ![0, 0] ∧ win0_8.index t = ![0, 0]
    ∧ win0_9.index t = ![0] :=
  (by decide +kernel : ∀ t : Fin grid0.N, _)

/-- Row `r` of point `t`'s block is this row of the whole batch. -/
def row (t : Fin cfg0.N) (r : Fin 2048) : Fin 16384 := ⟨t.val * 2048 + r.val, by have := t.isLt; have : cfg0.N = 8 := N_0; omega⟩

/-! ## What the region finds in the arrays that the host wrote -/

/-- The first selection table. -/
theorem table_first : V m c main_cst = (fun i => FloatOps.ofBits .f32 (lit0 (S4x128.rowMajor i)) : FVec Ideal S4x128 .f32) := by
  unfold V V0
  simp only [hostOps0, List.flatten_cons, List.flatten_nil, List.append_nil]
  after_results
  rfl

/-- The second selection table. -/
theorem table_second : V m c main_cst_0 = (fun i => FloatOps.ofBits .f32 (lit1 (S5x128.rowMajor i)) : FVec Ideal S5x128 .f32) := by
  unfold V V0
  simp only [hostOps0, List.flatten_cons, List.flatten_nil, List.append_nil]
  after_results
  rfl

/-- The last layer's weights, transposed. -/
theorem weights_transposed :
    V m c main_v0 = transpose S1000x128 [1, 0] (m ((c : Thread nD τ).loc main_arg7)) transposes_S128x1000_S1000x128_1_0 := by
  unfold V V0
  simp only [hostOps0, List.flatten_cons, List.flatten_nil, List.append_nil]
  after_results

/-! ## The blocks -/

/-- The first inputs' block. -/
theorem block0 (t : Fin cfg0.N) (k : Fin 4) (r : Fin 2048) (d : Fin 128) :
    (iblk m c 0 t : Vec Ideal S4x2048x128 .f32) (ix3 k r d) = m ((c : Thread nD τ).loc main_arg0) (ix3 k (row t r) d) := by
  have h := (idx_rows t).1
  blk_simp [iblk]
  rw [V_main_arg0]
  refine congrArg (m ((c : Thread nD τ).loc main_arg0)) ?_
  blk_ext [h, row]

/-- The second inputs' block. -/
theorem block1 (t : Fin cfg0.N) (k : Fin 4) (r : Fin 2048) (d : Fin 128) :
    (iblk m c 1 t : Vec Ideal S4x2048x128 .f32) (ix3 k r d) = m ((c : Thread nD τ).loc main_arg1) (ix3 k (row t r) d) := by
  have h := (idx_rows t).2.1
  blk_simp [iblk]
  rw [V_main_arg1]
  refine congrArg (m ((c : Thread nD τ).loc main_arg1)) ?_
  blk_ext [h, row]

/-- The first level's weights. -/
theorem block2 (t : Fin cfg0.N) : (iblk m c 2 t : Vec Ideal S4x128x128 .f32) = m ((c : Thread nD τ).loc main_arg3) := by
  obtain ⟨h, -⟩ := idx_whole t
  funext y
  blk_simp [iblk]
  rw [V_main_arg3]
  refine congrArg (m ((c : Thread nD τ).loc main_arg3)) ?_
  blk_ext [h]

/-- The first level's biases. -/
theorem block3 (t : Fin cfg0.N) : (iblk m c 3 t : Vec Ideal S4x128 .f32) = m ((c : Thread nD τ).loc main_arg4) := by
  obtain ⟨-, h, -⟩ := idx_whole t
  funext y
  blk_simp [iblk]
  rw [V_main_arg4]
  refine congrArg (m ((c : Thread nD τ).loc main_arg4)) ?_
  blk_ext [h]

/-- The first table: the first level's selections. -/
theorem block4 (t : Fin cfg0.N) (k : Fin 4) (e : Fin 128) : (iblk m c 4 t : Vec Ideal S4x128 .f32) (ix2 k e) = first e k := by
  obtain ⟨-, -, h, -⟩ := idx_whole t
  blk_simp [iblk]
  rw [table_first, ← kernel_first]
  refine congrArg (fun i => (FloatOps.ofBits .f32 (lit0 (S4x128.rowMajor i)) : Ideal .f32)) ?_
  blk_ext [h]

/-- The second level's weights. -/
theorem block5 (t : Fin cfg0.N) : (iblk m c 5 t : Vec Ideal S5x128x128 .f32) = m ((c : Thread nD τ).loc main_arg5) := by
  obtain ⟨-, -, -, h, -⟩ := idx_whole t
  funext y
  blk_simp [iblk]
  rw [V_main_arg5]
  refine congrArg (m ((c : Thread nD τ).loc main_arg5)) ?_
  blk_ext [h]

/-- The second level's biases. -/
theorem block6 (t : Fin cfg0.N) : (iblk m c 6 t : Vec Ideal S5x128 .f32) = m ((c : Thread nD τ).loc main_arg6) := by
  obtain ⟨-, -, -, -, h, -⟩ := idx_whole t
  funext y
  blk_simp [iblk]
  rw [V_main_arg6]
  refine congrArg (m ((c : Thread nD τ).loc main_arg6)) ?_
  blk_ext [h]

/-- The second table: the second level's selections. -/
theorem block7 (t : Fin cfg0.N) (k : Fin 5) (e : Fin 128) : (iblk m c 7 t : Vec Ideal S5x128 .f32) (ix2 k e) = second e k := by
  obtain ⟨-, -, -, -, -, h, -⟩ := idx_whole t
  blk_simp [iblk]
  rw [table_second, ← kernel_second]
  refine congrArg (fun i => (FloatOps.ofBits .f32 (lit1 (S5x128.rowMajor i)) : Ideal .f32)) ?_
  blk_ext [h]

/-- The last layer's weights, with the classes along the rows. -/
theorem block8 (t : Fin cfg0.N) (n : Fin 1000) (e : Fin 128) :
    (iblk m c 8 t : Vec Ideal S1000x128 .f32) (ix2 n e) = m ((c : Thread nD τ).loc main_arg7) (ix2 e n) := by
  obtain ⟨-, -, -, -, -, -, h, -⟩ := idx_whole t
  have hi : (win0_8.blk t).view.emb (ix2 n e) = ix2 n e := by blk_ext [h]
  blk_simp [iblk]
  rw [weights_transposed, hi]
  pointwise

/-- The last layer's biases. -/
theorem block9 (t : Fin cfg0.N) : (iblk m c 9 t : Vec Ideal S1000 .f32) = m ((c : Thread nD τ).loc main_arg8) := by
  obtain ⟨-, -, -, -, -, -, -, h⟩ := idx_whole t
  funext y
  blk_simp [iblk]
  rw [V_main_arg8]
  refine congrArg (m ((c : Thread nD τ).loc main_arg8)) ?_
  blk_ext [h]

end Cert.KernelIdeal.Blocks

end
-- ==== Proof.Arrays.lean ====
/-
  The kernel's results after a run.

  Each grid point writes back its block of one whole array (`out_array`, `first_array`: the transposed output and the first
  level, as the formulas of the model on the argument arrays), and the eight blocks cover it. The host then transposes the
  output (`result`). `run_results` says this of the kernel's whole run.
-/
module

public import proofs.«01_k».proof.Proof.Blocks

@[expose] public section

noncomputable section

namespace Cert.KernelIdeal.Arrays

open Idealize.ShloMosaic Idealize.ShloMosaic.TcCoe Idealize.SL.Sem Cert.KernelIdeal Cert.KernelIdeal.Gen Cert.KernelIdeal.Body
  Cert.KernelIdeal.Blocks Cert.Selection

variable (m : (ℓ : Loc nD τ sig) → Buf (Elt Ideal) ℓ) (ρ : Dev nD → PrngReg) (c : Dev nD)

/-- The first level's array, from the arguments. -/
def firstArr : Arr2 16384 128 := fun i =>
  firstOut (m ((c : Thread nD τ).loc main_arg0)) (m ((c : Thread nD τ).loc main_arg3)) (m ((c : Thread nD τ).loc main_arg4)) (i 0) (i 1)

/-- The model's output array, from the arguments. -/
def logitsArr : Arr2 16384 1000 := fun i =>
  logits (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (i 0) (i 1)

/-- What point `t` leaves in the block of the first level's array. -/
theorem first_at (t : Fin cfg0.N) (r : Fin 2048) (e : Fin 128) :
    (dats m 0 c).after 11 t (ix2 r e) = firstArr m c (ix2 (row t r) e) := by
  rw [after0_11, out_first _ _ _ _ _ _ _ _ _ _ (block4 m c t), block2, block3]
  exact congrFun (firstOut_congr fun k d => block0 m c t k r d) e

/-- What point `t` leaves in the block of the transposed output array. -/
theorem out_at (t : Fin cfg0.N) (n : Fin 1000) (r : Fin 2048) :
    (dats m 0 c).after 10 t (ix2 n r) = logitsArr m c (ix2 (row t r) n) := by
  rw [after0_10, out_logits _ _ _ _ _ _ _ _ _ _ _ (block4 m c t) (block7 m c t) (block8 m c t), block2, block3, block5, block6, block9]
  exact congrFun (logits_congr (fun k d => block0 m c t k r d) fun k d => block1 m c t k r d) n

/-- The first level's array ends at the first level of the model. -/
theorem first_array : (dats m 0 c).arrAt 11 cfg0.N = firstArr m c := by
  refine (dats m 0 c).arrAt_eq_of_covers 11 _ (by decide +kernel) fun t hf y => ?_
  obtain ⟨-, -, -, h⟩ := idx_rows t
  have hy : (win0_11.blk t).view.emb y = ix2 (row t (y 0)) (y 1) := by blk_ext [h, row]
  blk_simp
  rw [hy]
  exact (congrArg ((dats m 0 c).after 11 t) (eq_ix2 y)).trans (first_at m c t (y 0) (y 1))

/-- The output array, classes along the rows, ends at the transposed output of the model. -/
theorem out_array : (dats m 0 c).arrAt 10 cfg0.N = ((fun i => logitsArr m c (ix2 (i 1) (i 0))) : Arr2 1000 16384) := by
  refine (dats m 0 c).arrAt_eq_of_covers 10 _ (by decide +kernel) fun t hf y => ?_
  obtain ⟨-, -, h, -⟩ := idx_rows t
  have hy : (win0_10.blk t).view.emb y = ix2 (y 0) (row t (y 1)) := by blk_ext [h, row]
  blk_simp
  rw [hy]
  exact (congrArg ((dats m 0 c).after 10 t) (eq_ix2 y)).trans (out_at m c t (y 0) (y 1))

/-- The host's transposition gives the output of the model. -/
theorem result : Pipeline.afterTail₀ cfgs (dats m) 0 (V0 m) [hostOps1] c main_v2 = logitsArr m c := by
  unfold Pipeline.afterTail₀
  simp only [hostOps1, List.flatten_cons, List.flatten_nil, List.append_nil]
  after_results
  funext i
  refine (transpose_apply (s := S1000x16384) (t := S16384x1000) [1, 0] _ transposes_S1000x16384_S16384x1000_1_0 i
    (ix2 (i 1) (i 0)) (fun a => by fin_cases a <;> rfl)).trans ?_
  exact (congrFun ((Pipeline.withArrays_arr spec0 winFacts0.arr_inj c _ _ 10).trans (out_array m c)) (ix2 (i 1) (i 0))).trans
    (congrArg (logitsArr m c) (eq_ix2 i).symm)

/-- The kernel's run ends with both results at the model's values. -/
theorem run_results : θ_run (defs (F := Ideal)) (onTc (τ := τ) (main (F := Ideal))) ⟨m, fun _ => 0, ρ⟩ (fun r => ∀ c : Dev nD,
    r.2.mem ((c : Thread nD τ).loc main_v2) = logitsArr m c ∧ r.2.mem ((c : Thread nD τ).loc main_v1_1) = firstArr m c) :=
  (θ_run (defs (F := Ideal)) _ _).mono
    (fun _ h c => ⟨((h c).2 main_v2 (Pipeline.mem_restRefs_of main_v2 (by decide) (by decide))).trans (result m c),
      ((h c).1 11).trans (first_array m c)⟩)
    (run_main m ρ)

end Cert.KernelIdeal.Arrays

end
-- ==== Proof.Ref.lean ====
/-
  The reference's results at an index: the formulas of the model on the arguments.

  The reference's run ends with each result at one composed term of its arguments. Read at an index, the first level's
  term is `firstOut` (`firstTerm_apply`) and the output's is `logits` (`logitsTerm_apply`).
-/
module

public import proofs.«01_k».proof.Proof.Gen.ReferenceIdeal.Run
public import proofs.«01_k».proof.Proof.Arrays

@[expose] public section

noncomputable section

namespace Cert.ReferenceIdeal.Terms

open Idealize.ShloMosaic Cert.ReferenceIdeal Cert.ReferenceIdeal.Gen Cert.Selection

variable (x₁ x₂ : FVec Ideal S4x16384x128 .f32) (w₁ : FVec Ideal S4x128x128 .f32) (b₁ : FVec Ideal S4x128 .f32)
  (w₂ : FVec Ideal S5x128x128 .f32) (b₂ : FVec Ideal S5x128 .f32) (w₃ : FVec Ideal S128x1000 .f32) (b₃ : FVec Ideal S1000 .f32)

/-- The number of a comparison's outcome is one where it holds and zero where it does not: the selection. -/
theorem uitofp_eq_pick {n : Nat} (c : BitVec 32) (m : Fin n) :
    (FloatOps.uitofp .f32 (IntOp.cmpi .eq c (BitVec.ofNat 32 m)) : Ideal .f32) = pick n c m := by
  show (((BitVec.ofBool (c == BitVec.ofNat 32 m)).toNat : ℝ) : EReal) = if c = BitVec.ofNat 32 m then 1 else 0
  split
  · rename_i h; simp [h]
  · rename_i h; simp [h]

/-- An index of the table of drawn numbers is its lane. -/
theorem rowMajor_lane (e : Fin 128) : S1x128.rowMajor (ix2 0 e) = e := by
  refine Fin.ext ((Shape.rowMajor_val_two (d := ![1, 128]) (ix2 0 e)).trans ?_)
  show 0 * 128 + (e : Nat) = e
  omega

/-- The first level's zeros and ones as the reference builds them. -/
def firstMask : FVec Ideal S16384x4x128 .f32 :=
  broadcastInDim S16384x4x128 ![0, 1, 2] bcast_S1x4x128_S16384x4x128_0_1_2
    (transpose S1x4x128 [0, 2, 1] (uitofp .f32 (cmpi .eq
      (broadcastInDim S1x128x4 ![0, 1, 2] bcast_S1x128x1_S1x128x4_0_1_2
        (broadcastInDim S1x128x1 ![0, 1] bcast_S1x128_S1x128x1_0_1 (fun i => lit0 (S1x128.rowMajor i))))
      (broadcastInDim S1x128x4 ![0, 1, 2] bcast_S1x1x4_S1x128x4_0_1_2 (iotaInDim S1x1x4 32 2))))
      transposes_S1x128x4_S1x4x128_0_2_1)

/-- In every batch row they are the first level's selection. -/
theorem firstMask_apply (r : Fin 16384) (m : Fin 4) (e : Fin 128) : firstMask (ix3 r m e) = first e m := by
  pointwise [firstMask]
  rw [rowMajor_lane]
  exact uitofp_eq_pick _ m

/-- The second level's zeros and ones as the reference builds them. -/
def secondMask : FVec Ideal S16384x5x128 .f32 :=
  broadcastInDim S16384x5x128 ![0, 1, 2] bcast_S1x5x128_S16384x5x128_0_1_2
    (transpose S1x5x128 [0, 2, 1] (uitofp .f32 (cmpi .eq
      (broadcastInDim S1x128x5 ![0, 1, 2] bcast_S1x128x1_S1x128x5_0_1_2
        (broadcastInDim S1x128x1 ![0, 1] bcast_S1x128_S1x128x1_0_1 (fun i => lit1 (S1x128.rowMajor i))))
      (broadcastInDim S1x128x5 ![0, 1, 2] bcast_S1x1x5_S1x128x5_0_1_2 (iotaInDim S1x1x5 32 2))))
      transposes_S1x128x5_S1x5x128_0_2_1)

/-- In every batch row they are the second level's selection. -/
theorem secondMask_apply (r : Fin 16384) (m : Fin 5) (e : Fin 128) : secondMask (ix3 r m e) = second e m := by
  pointwise [secondMask]
  rw [rowMajor_lane]
  exact uitofp_eq_pick _ m

/-- The reference's term of the first level, from its inputs. -/
def firstTerm : FVec Ideal S16384x128 .f32 :=
  Host.reduceAdd (mulf
    (transpose S16384x4x128 [1, 0, 2] (maximumf
      (addf (Host.dotGeneral dot_S4x16384x128_S4x128x128_S4x16384x128_2_1_1_2_0_0 none x₁ w₁)
        (broadcastInDim S4x16384x128 ![0, 1, 2] bcast_S4x1x128_S4x16384x128_0_1_2
          (broadcastInDim S4x1x128 ![0, 2] bcast_S4x128_S4x1x128_0_2 b₁)))
      (broadcastInDim S4x16384x128 ![] bcast_S_S4x16384x128 (constant S_ .f32 0x00000000#32)))
      transposes_S4x16384x128_S16384x4x128_1_0_2)
    firstMask)
    (constant S_ .f32 0x00000000#32) reducesTo_S16384x4x128_S16384x128_d1 h_S_

/-- The first level's term at an index is the first level of the model. -/
theorem firstTerm_apply (r : Fin 16384) (e : Fin 128) : firstTerm x₁ w₁ b₁ (ix2 r e) = firstOut x₁ w₁ b₁ r e := by
  pointwise [firstTerm]
  simp only [firstMask_apply]
  rfl

/-- The second level's inputs: the four inputs of the second kind and, as a fifth, an array of rows `h`. -/
def inputsTerm (h : FVec Ideal S16384x128 .f32) : FVec Ideal S5x16384x128 .f32 :=
  concatenate S5x16384x128 0 [⟨S4x16384x128, x₂⟩, ⟨S1x16384x128, broadcastInDim S1x16384x128 ![1, 2] bcast_S16384x128_S1x16384x128_1_2 h⟩]
    concatenates_S4x16384x128_S1x16384x128_S5x16384x128_d0

/-- At an index it is the input of the second kind for the first four experts, and the row of `h` for the fifth. -/
theorem inputsTerm_apply (h : FVec Ideal S16384x128 .f32) (m : Fin 5) (r : Fin 16384) (k : Fin 128) :
    inputsTerm x₂ h (ix3 m r k) = extend (fun m k => x₂ (ix3 m r k)) (fun k => h (ix2 r k)) m k := by
  pointwise [inputsTerm]
  induction m using Fin.lastCases with
  | last => rw [extend_last, dif_neg (by decide)]
  | cast m => rw [extend_castSucc, dif_pos (by exact m.isLt)]; rfl

/-- The reference's term of the second level, from its five inputs. -/
def secondTerm (x : FVec Ideal S5x16384x128 .f32) : FVec Ideal S16384x128 .f32 :=
  Host.reduceAdd (mulf
    (transpose S16384x5x128 [1, 0, 2] (maximumf
      (addf (Host.dotGeneral dot_S5x16384x128_S5x128x128_S5x16384x128_2_1_1_2_0_0 none x w₂)
        (broadcastInDim S5x16384x128 ![0, 1, 2] bcast_S5x1x128_S5x16384x128_0_1_2
          (broadcastInDim S5x1x128 ![0, 2] bcast_S5x128_S5x1x128_0_2 b₂)))
      (broadcastInDim S5x16384x128 ![] bcast_S_S5x16384x128 (constant S_ .f32 0x00000000#32)))
      transposes_S5x16384x128_S16384x5x128_1_0_2)
    secondMask)
    (constant S_ .f32 0x00000000#32) reducesTo_S16384x5x128_S16384x128_d1 h_S_

/-- The second level's term at an index is a level with the second selection. -/
theorem secondTerm_apply (x : FVec Ideal S5x16384x128 .f32) (r : Fin 16384) (e : Fin 128) :
    secondTerm w₂ b₂ x (ix2 r e)
      = level (fun m k => x (ix3 m r k)) (fun m k => w₂ (ix3 m k e)) (fun m => b₂ (ix2 m e)) (second e) := by
  pointwise [secondTerm]
  simp only [secondMask_apply]
  rfl

/-- The reference's term of the output, from its arguments. -/
def logitsTerm : FVec Ideal S16384x1000 .f32 :=
  addf (Host.dotGeneral dot_S16384x128_S128x1000_S16384x1000_1_0_0_1_n_n none
      (secondTerm w₂ b₂ (inputsTerm x₂ (firstTerm x₁ w₁ b₁))) w₃)
    (broadcastInDim S16384x1000 ![0, 1] bcast_S1x1000_S16384x1000_0_1 (broadcastInDim S1x1000 ![1] bcast_S1000_S1x1000_1 b₃))

/-- The output's term at an index is the output of the model. -/
theorem logitsTerm_apply (r : Fin 16384) (n : Fin 1000) :
    logitsTerm x₁ x₂ w₁ b₁ w₂ b₂ w₃ b₃ (ix2 r n) = logits x₁ x₂ w₁ b₁ w₂ b₂ w₃ b₃ r n := by
  pointwise [logitsTerm]
  simp only [secondTerm_apply, inputsTerm_apply, firstTerm_apply]
  rfl

end Cert.ReferenceIdeal.Terms

end
-- ==== Proof.lean ====
/-
  The certificate of the two-level selection network: the five claims, from the modules of Proof/.

  The frames are the runs of the three programs. The ideal reading replaces no operation, so nothing is left to prove
  of it. The equation takes the model's two arrays as the common values: the kernel's run ends there
  (`Cert.KernelIdeal.Arrays.run_results`), and the reference's terms are read there (`Cert.ReferenceIdeal.Terms`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Ref
public import Idealize.ShloMosaic.Adequacy
public import Idealize.ShloMosaic.Lib.Quiescent
public import Idealize.ShloMosaic.Init

@[expose] public section

noncomputable section

namespace Cert.Proof

open Idealize.ShloMosaic Idealize.SL.Sem Cert.Selection

/-- From equal arguments, the kernel and the reference end with equal results and leave their arguments as they were. -/
theorem results_equal :
    algebraic_KernelIdeal_ReferenceIdeal (hKernelIdeal := Cert.KernelIdeal.Gen.facts) (hReferenceIdeal := Cert.ReferenceIdeal.Gen.facts) := by
  intro m g m' g' _ hagree
  refine ⟨Cert.KernelIdeal.Arrays.logitsArr m, Cert.KernelIdeal.Arrays.firstArr m, ?_, ?_⟩
  · refine (θ_run (Cert.KernelIdeal.defs (F := Ideal)) _ _).mono (fun r h c => ?_)
      (θ_run_and (Cert.KernelIdeal.Arrays.run_results m g) (Cert.KernelIdeal.Gen.unchanged m g))
    exact ⟨(h.1 c).1, (h.1 c).2, h.2 c⟩
  · refine (θ_run (Cert.ReferenceIdeal.defs (F := Ideal)) _ _).mono (fun r h c => ?_) (Cert.ReferenceIdeal.Value.run (F := Ideal) m' g')
    obtain ⟨h0, h1, -, h3, h4, h5, h6, h7, h8⟩ := hagree c
    refine ⟨(h c).1.trans ?_, (h c).2.1.trans ?_, (h c).2.2⟩
    · rw [h0, h1, h3, h4, h5, h6, h7, h8]
      funext i
      rw [eq_ix2 i]
      exact Cert.ReferenceIdeal.Terms.logitsTerm_apply _ _ _ _ _ _ _ _ (i 0) (i 1)
    · rw [h0, h3, h4]
      funext i
      rw [eq_ix2 i]
      exact Cert.ReferenceIdeal.Terms.firstTerm_apply _ _ _ (i 0) (i 1)

/-- Every claim of the certificate. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => (θ_run (Cert.ReferenceIdeal.defs (F := Ideal)) _ _).mono
      (fun r h => ⟨fun c => (h c).2.2, Idealize.ShloMosaic.sem_eq_zero_of_no_sems (by decide) r.2⟩)
      (Cert.ReferenceIdeal.Value.run (F := Ideal) m ρ),
    trivial,
    results_equal⟩

end Cert.Proof

end
